-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2x8192 : Shape := ⟨2, ![2, 8192]⟩
abbrev S8192x1024 : Shape := ⟨2, ![8192, 1024]⟩
abbrev S3x16x1024 : Shape := ⟨3, ![3, 16, 1024]⟩
abbrev S16x3x16x1024 : Shape := ⟨4, ![16, 3, 16, 1024]⟩
abbrev S3 : Shape := ⟨1, ![3]⟩
abbrev S1x16x1024 : Shape := ⟨3, ![1, 16, 1024]⟩
abbrev S16x1024 : Shape := ⟨2, ![16, 1024]⟩
abbrev S1 : Shape := ⟨1, ![1]⟩
abbrev S_ : Shape := ⟨0, ![]⟩
abbrev S1x1x16x1024 : Shape := ⟨4, ![1, 1, 16, 1024]⟩

abbrev nBuf : Table → Nat
  | .hbm => 3
  | .shared => 1
  | .local .scVector .vmem => 1
  | _ => 0

abbrev bufTy : (tb : Table) → Fin (nBuf tb) → BufTy
  | .hbm, ⟨0, _⟩ => ⟨S2x8192, .i32⟩
  | .hbm, ⟨1, _⟩ => ⟨S8192x1024, .f32⟩
  | .hbm, ⟨2, _⟩ => ⟨S8192x1024, .f32⟩
  | .shared, ⟨0, _⟩ => ⟨S16x3x16x1024, .f32⟩
  | .local .scVector .vmem, ⟨0, _⟩ => ⟨S3x16x1024, .f32⟩
  | _, _ => ⟨S2x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch1 : Ref sig .scVector := ⟨.shared, 0, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v4 : BitVec 32 := Scalar.addi v2 c0_i32
  let c0_i32_4 : BitVec 32 := 0#32
  ![v4.toNat, 0]
def k0_off2 (i : grid0.Coords) : Fin 4 → Nat :=
  let arg1 : BitVec 32 := BitVec.ofNat 32 (i 1).val
  let c0_i32_24 : BitVec 32 := 0#32
  let c0_i32_26 : BitVec 32 := 0#32
  let c0_i32_27 : BitVec 32 := 0#32
  ![arg1.toNat, 0, 0, 0]
def k0_off3 (i : grid0.Coords) (c0_i32_23 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c144_i32 : BitVec 32 := 144#32
  let v3 : BitVec 32 := Scalar.addi v2 c144_i32
  let v31 : BitVec 32 := Scalar.addi v3 c0_i32_23
  let c0_i32_28 : BitVec 32 := 0#32
  ![v31.toNat, 0]
def k0_off4 (i : grid0.Coords) : Fin 4 → Nat :=
  let arg1 : BitVec 32 := BitVec.ofNat 32 (i 1).val
  let c1_i32_30 : BitVec 32 := 1#32
  let c0_i32_32 : BitVec 32 := 0#32
  let c0_i32_33 : BitVec 32 := 0#32
  ![arg1.toNat, 1, 0, 0]
def k0_off5 (i : grid0.Coords) : Fin 4 → Nat :=
  let arg1 : BitVec 32 := BitVec.ofNat 32 (i 1).val
  let c2_i32_36 : BitVec 32 := 2#32
  let c0_i32_38 : BitVec 32 := 0#32
  let c0_i32_39 : BitVec 32 := 0#32
  ![arg1.toNat, 2, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x8192 : Shape := ⟨2, ![2, 8192]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Setup.lean ====
/-
  The kernel copies the 8192 rows of `emb` to `out`, thirty-two tasks (two SparseCores of sixteen vector subcores) with 256
  consecutive rows each: task `(c, s)` has the rows from `512 s + 256 c` on, in sixteen CHUNKS of sixteen rows. The first
  nine chunks go through three slots of the subcore's own memory, the other seven through the three slots that the task
  has in the SparseCore's shared memory; each slot is filled by one transfer and emptied by the next, and each of the
  twelve semaphores has one transfer outstanding at a time.

  This file names the program as the launch theorem sees it, the buffers, and the sets of elements that the transfers
  move: the chunks, the slots, and the proof that the slices the kernel computes are these.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program's functions. -/
abbrev ΛP : Labels := Pipeline.Sig Λ₀ (Fin 0) fun p => (pcfgs (F := F) p).Adm
/-- The program's one SparseCore call. -/
abbrev K : SparseCore.Cfg τ sig (ΛP (F := F)) 1 := sc (F := F)
/-- The functions the threads run. -/
abbrev D [FloatOps F] : Defs nD τ sig (Elt F) (ΛP (F := F)) := Pipeline.defs pcfgs defs₀
/-- No function recurs, so no variant is needed, -/
abbrev 𝒱₀ : Variants := Variants.none
/-- nor once the launch's own functions are added, -/
abbrev 𝒱 : Variants := 𝒱₀.lift
/-- whose starting variant this is. -/
abbrev v₀ : 𝒱.V := Sum.inl none

/-- The launch's semaphores are apart from each other and from what a kernel allocates. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the launch's handshakes and the transfers' counters -/

/-- The ghost state of the handshakes, -/
abbrev UH : Type := URounds (GSem nD τ sig) ℕ
/-- with that of the transfers beside it. -/
abbrev UU : Type := UH × Counters

local notation "𝕄" => MT nD τ sig (HIx 1) (Elt F) ℕ UU ℕ

/-- The handshakes' part of the ghost state. -/
abbrev EH : Emb UH (MT nD τ sig (HIx 1) (Elt F) ℕ UU ℕ) := embL

/-! ## The buffers -/

/-- The first argument, of which the kernel uses the shape alone. -/
abbrev aLoc (d : Dev nD) : Loc nD τ sig := (SparseCore.T d).loc main_arg0
/-- `emb`. -/
abbrev eLoc (d : Dev nD) : Loc nD τ sig := (SparseCore.T d).loc main_arg1
/-- `out`. -/
abbrev oLoc (d : Dev nD) : Loc nD τ sig := (SparseCore.T d).loc main_v0
/-- The shared scratch of SparseCore `c`, on any device. -/
abbrev shRef (c : Fin τ.nSC) : DevRef τ sig := ⟨.shared, ⟨0, by decide⟩, c⟩
/-- The shared scratch of SparseCore `c`. -/
abbrev shLoc (d : Dev nD) (c : Fin τ.nSC) : Loc nD τ sig := (d, shRef c)

local notation "eV" => (Memref.whole Cert.KernelIdeal.main_arg1_scv : Memref Cert.KernelIdeal.sig Kind.scVector Space.hbm Cert.KernelIdeal.S8192x1024 EltTy.f32)
local notation "oV" => (Memref.whole Cert.KernelIdeal.main_v0_scv : Memref Cert.KernelIdeal.sig Kind.scVector Space.hbm Cert.KernelIdeal.S8192x1024 EltTy.f32)
local notation "bV" => (Memref.whole Cert.KernelIdeal.cc0_scratch0 : Memref Cert.KernelIdeal.sig Kind.scVector Space.vmem Cert.KernelIdeal.S3x16x1024 EltTy.f32)
local notation "hV" => (Memref.whole Cert.KernelIdeal.cc0_scratch1 : Memref Cert.KernelIdeal.sig Kind.scVector Space.shared Cert.KernelIdeal.S16x3x16x1024 EltTy.f32)

/-! ## The sets of elements -/

/-- Chunk `k` of task `(c, s)`: the sixteen rows from `512 s + 256 c + 16 k` on. -/
def chunk (t : Fin 2 × Fin 16 × Fin 16) : Finset S8192x1024.Idx :=
  Finset.univ.filter fun x => (x 0).val / 16 = 32 * t.2.1.val + 16 * t.1.val + t.2.2.val

/-- Slot `b` of subcore `s` in the shared scratch. -/
def shSlot (t : Fin 16 × Fin 3) : Finset S16x3x16x1024.Idx :=
  Finset.univ.filter fun x => (x 0).val = t.1.val ∧ (x 1).val = t.2.val

/-- Slot `b` of the subcore's own scratch. -/
def slot (b : Fin 3) : Finset S3x16x1024.Idx :=
  Finset.univ.filter fun x => (x 0).val = b.val

/-- Different chunks have no element in common, -/
theorem chunk_disjoint : ∀ t ∈ (Finset.univ : Finset (Fin 2 × Fin 16 × Fin 16)), ∀ t' ∈ (Finset.univ : Finset (Fin 2 × Fin 16 × Fin 16)),
    t ≠ t' → Disjoint (chunk t) (chunk t') := by
  rintro ⟨c, s, k⟩ - ⟨c', s', k'⟩ - h
  refine Finset.disjoint_left.mpr fun x hx hx' => h ?_
  simp only [chunk, Finset.mem_filter, Finset.mem_univ, _root_.true_and] at hx hx'
  rw [Prod.mk.injEq, Prod.mk.injEq, Fin.ext_iff, Fin.ext_iff, Fin.ext_iff]
  omega

/-- and the chunks of all tasks are the whole array. -/
theorem chunk_cover : (Finset.univ : Finset (Fin 2 × Fin 16 × Fin 16)).biUnion chunk = Finset.univ := by
  refine Finset.eq_univ_iff_forall.mpr fun x => ?_
  have hx : (x 0).val < 8192 := (x 0).isLt
  refine Finset.mem_biUnion.mpr ⟨⟨⟨(x 0).val / 256 % 2, by omega⟩, ⟨(x 0).val / 512, by omega⟩, ⟨(x 0).val / 16 % 16, by omega⟩⟩,
    Finset.mem_univ _, ?_⟩
  simp only [chunk, Finset.mem_filter, Finset.mem_univ, _root_.true_and]
  omega

/-- Different slots of the shared scratch have no element in common, -/
theorem shSlot_disjoint : ∀ t ∈ (Finset.univ : Finset (Fin 16 × Fin 3)), ∀ t' ∈ (Finset.univ : Finset (Fin 16 × Fin 3)),
    t ≠ t' → Disjoint (shSlot t) (shSlot t') := by
  rintro ⟨s, b⟩ - ⟨s', b'⟩ - h
  refine Finset.disjoint_left.mpr fun x hx hx' => h ?_
  simp only [shSlot, Finset.mem_filter, Finset.mem_univ, _root_.true_and] at hx hx'
  rw [Prod.mk.injEq, Fin.ext_iff, Fin.ext_iff]
  omega

/-- and together they are all of it. -/
theorem shSlot_cover : (Finset.univ : Finset (Fin 16 × Fin 3)).biUnion shSlot = Finset.univ :=
  Finset.eq_univ_iff_forall.mpr fun x => Finset.mem_biUnion.mpr ⟨⟨x 0, x 1⟩, Finset.mem_univ _, by simp [shSlot]⟩

/-- Different slots of the subcore's own scratch have no element in common, -/
theorem slot_disjoint : ∀ b ∈ (Finset.univ : Finset (Fin 3)), ∀ b' ∈ (Finset.univ : Finset (Fin 3)),
    b ≠ b' → Disjoint (slot b) (slot b') := by
  rintro b - b' - h
  refine Finset.disjoint_left.mpr fun x hx hx' => h (Fin.ext ?_)
  simp only [slot, Finset.mem_filter, Finset.mem_univ, _root_.true_and] at hx hx'
  omega

/-- and together they are all of it. -/
theorem slot_cover : (Finset.univ : Finset (Fin 3)).biUnion slot = Finset.univ :=
  Finset.eq_univ_iff_forall.mpr fun x => Finset.mem_biUnion.mpr ⟨x 0, Finset.mem_univ _, by simp [slot]⟩

/-! ## The slices, as the kernel writes them -/

/-- The SparseCore of grid point `L`, -/
abbrev cV (L : grid0.Coords) : Fin τ.nSC := (L 0).castLE hcore0
/-- and its vector subcore there. -/
abbrev jV (L : grid0.Coords) : Fin τ.nSub := (L 1).castLE hsub0
/-- The vector subcore that runs the task at grid point `L`. -/
abbrev thr (d : Dev nD) (L : grid0.Coords) : Thread nD τ := V d (cV L) (jV L)
/-- The task at grid point `L`, as a pair of numbers. -/
abbrev c2 (L : grid0.Coords) : Fin 2 := L 0
/-- The second number of the pair: the subcore. -/
abbrev s16 (L : grid0.Coords) : Fin 16 := L 1

/-- The rows that a step of the first pipe moves: its offset counts from the task's first row. -/
abbrev rS (L : grid0.Coords) (w : BitVec 32) (h : ∀ a, k0_off1 L w a + S16x1024.size a ≤ S8192x1024.size a) : Rect S8192x1024 :=
  Rect.unit (s := S8192x1024) (k0_off1 L w) S16x1024.size h
/-- The rows that a step of the second pipe moves: its offset counts from the task's row 144. -/
abbrev rD (L : grid0.Coords) (w : BitVec 32) (h : ∀ a, k0_off3 L w a + S16x1024.size a ≤ S8192x1024.size a) : Rect S8192x1024 :=
  Rect.unit (s := S8192x1024) (k0_off3 L w) S16x1024.size h

/-- A slot of the subcore's own scratch, as the kernel slices it. -/
abbrev bK (off : Fin 3 → Nat) (h : ∀ a, off a + S1x16x1024.size a ≤ S3x16x1024.size a) : Memref sig .scVector .vmem S16x1024 .f32 :=
  ((bV).slice (Rect.unit (s := S3x16x1024) off S1x16x1024.size h) (fun _ => rfl)).squeeze S16x1024 squeezes_S1x16x1024_S16x1024
/-- A slot of the shared scratch, as the kernel slices it. -/
abbrev hK (off : Fin 4 → Nat) (h : ∀ a, off a + S1x1x16x1024.size a ≤ S16x3x16x1024.size a) : Memref sig .scVector .shared S16x1024 .f32 :=
  ((hV).slice (Rect.unit (s := S16x3x16x1024) off S1x1x16x1024.size h) (fun _ => rfl)).squeeze S16x1024 squeezes_S1x1x16x1024_S16x1024

/-- Entry `b` of an array of three semaphores. -/
abbrev semK (a : DmaSems sig S3) (off : Fin 1 → Nat) (h : ∀ a, off a + S1.size a ≤ S3.size a) : DmaSem sig :=
  ((a.slice (Rect.unit (s := S3) off S1.size h)).squeeze S_ squeezes_S1_S_).sem

/-- Sixteen whole rows from row `16 n` on are chunk `n`. -/
theorem mem_rows {off : Fin 2 → Nat} {h : ∀ a, off a + S16x1024.size a ≤ S8192x1024.size a} {n : Nat} (h0 : off 0 = 16 * n) (h1 : off 1 = 0)
    (x : S8192x1024.Idx) : x ∈ (Rect.unit (s := S8192x1024) off S16x1024.size h).set ↔ (x 0).val / 16 = n := by
  rw [Rect.mem_set_unit]
  have hx : (x 1).val < 1024 := (x 1).isLt
  constructor
  · intro H
    have : off 0 ≤ (x 0).val ∧ (x 0).val < off 0 + 16 := H 0
    omega
  · intro H a
    match a with
    | 0 => rw [h0]; show 16 * n ≤ (x 0).val ∧ (x 0).val < 16 * n + 16; omega
    | 1 => rw [h1]; show 0 ≤ (x 1).val ∧ (x 1).val < 0 + 1024; omega

/-- Step `r` of the first pipe moves chunk `r` of the task. -/
theorem set_rS (L : grid0.Coords) (r : Fin 9) :
    (rS L (BitVec.ofNat 32 (16 * r.val)) (k0_off1_inb L r)).set = chunk (c2 L, s16 L, ⟨r.val, by omega⟩) := by
  ext x
  rw [mem_rows (n := 32 * (L 1).val + 16 * (L 0).val + r.val) (by rw [k0_off1_eq]; show 512 * (L 1).val + 256 * (L 0).val + 16 * r.val = _; omega) (by rw [k0_off1_eq]; rfl)]
  simp only [chunk, Finset.mem_filter, Finset.mem_univ, _root_.true_and]

/-- Step `r` of the second pipe moves chunk `9 + r` of the task. -/
theorem set_rD (L : grid0.Coords) (r : Fin 7) :
    (rD L (BitVec.ofNat 32 (16 * r.val)) (k0_off3_inb L r)).set = chunk (c2 L, s16 L, ⟨9 + r.val, by omega⟩) := by
  ext x
  rw [mem_rows (n := 32 * (L 1).val + 16 * (L 0).val + (9 + r.val)) (by rw [k0_off3_eq]; show 512 * (L 1).val + 256 * (L 0).val + 16 * r.val + 144 = _; omega) (by rw [k0_off3_eq]; rfl)]
  simp only [chunk, Finset.mem_filter, Finset.mem_univ, _root_.true_and]

/-- The slice of the subcore's own scratch at entry `b` is slot `b`. -/
theorem set_bK {off : Fin 3 → Nat} {h : ∀ a, off a + S1x16x1024.size a ≤ S3x16x1024.size a} (b : Fin 3) (e : off = ![b.val, 0, 0]) :
    (bK off h).view.set = slot b := by
  subst e
  show (((View.whole cc0_scratch0).slice (Rect.unit (s := S3x16x1024) ![b.val, 0, 0] S1x16x1024.size h)).reshape S16x1024 _).set = _
  rw [View.set_reshape, View.set_slice_whole]
  ext x
  rw [Rect.mem_set_unit]
  simp only [slot, Finset.mem_filter, Finset.mem_univ, _root_.true_and]
  have h1 : (x 1).val < 16 := (x 1).isLt
  have h2 : (x 2).val < 1024 := (x 2).isLt
  constructor
  · intro H; have : b.val ≤ (x 0).val ∧ (x 0).val < b.val + 1 := H 0; omega
  · intro H a
    match a with
    | 0 => show b.val ≤ (x 0).val ∧ (x 0).val < b.val + 1; omega
    | 1 => show 0 ≤ (x 1).val ∧ (x 1).val < 0 + 16; omega
    | 2 => show 0 ≤ (x 2).val ∧ (x 2).val < 0 + 1024; omega

/-- The slice of the shared scratch at entry `(s, b)` is slot `b` of subcore `s`. -/
theorem set_hK (s : Fin 16) (b : Fin 3) {off : Fin 4 → Nat} {h : ∀ a, off a + S1x1x16x1024.size a ≤ S16x3x16x1024.size a} (e : off = ![s.val, b.val, 0, 0]) :
    (hK off h).view.set = shSlot (s, b) := by
  subst e
  show (((View.whole cc0_scratch1).slice (Rect.unit (s := S16x3x16x1024) ![s.val, b.val, 0, 0] S1x1x16x1024.size h)).reshape S16x1024 _).set = _
  rw [View.set_reshape, View.set_slice_whole]
  ext x
  rw [Rect.mem_set_unit]
  simp only [shSlot, Finset.mem_filter, Finset.mem_univ, _root_.true_and]
  have h2 : (x 2).val < 16 := (x 2).isLt
  have h3 : (x 3).val < 1024 := (x 3).isLt
  constructor
  · intro H
    have h0 : s.val ≤ (x 0).val ∧ (x 0).val < s.val + 1 := H 0
    have h1 : b.val ≤ (x 1).val ∧ (x 1).val < b.val + 1 := H 1
    omega
  · intro H a
    match a with
    | 0 => show s.val ≤ (x 0).val ∧ (x 0).val < s.val + 1; omega
    | 1 => show b.val ≤ (x 1).val ∧ (x 1).val < b.val + 1; omega
    | 2 => show 0 ≤ (x 2).val ∧ (x 2).val < 0 + 16; omega
    | 3 => show 0 ≤ (x 3).val ∧ (x 3).val < 0 + 1024; omega

end Cert.Proof.Copy

end
-- ==== Proof.Tile.lean ====
/-
  The task: what one vector subcore does with its sixteen chunks. The transfers and their waits are stepped by the symbolic
  executor, once, at a task `L` of the grid; a chunk of `out` ends at what was read of the same chunk of `emb`, for the
  slot in between was filled from it (`pairS_done`, `pairD_done`).
-/
module

public import proofs.«01_k».proof.Proof.Setup

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "eV" => (Memref.whole Cert.KernelIdeal.main_arg1_scv : Memref Cert.KernelIdeal.sig Kind.scVector Space.hbm Cert.KernelIdeal.S8192x1024 EltTy.f32)
local notation "oV" => (Memref.whole Cert.KernelIdeal.main_v0_scv : Memref Cert.KernelIdeal.sig Kind.scVector Space.hbm Cert.KernelIdeal.S8192x1024 EltTy.f32)
local notation "bV" => (Memref.whole Cert.KernelIdeal.cc0_scratch0 : Memref Cert.KernelIdeal.sig Kind.scVector Space.vmem Cert.KernelIdeal.S3x16x1024 EltTy.f32)
local notation "hV" => (Memref.whole Cert.KernelIdeal.cc0_scratch1 : Memref Cert.KernelIdeal.sig Kind.scVector Space.shared Cert.KernelIdeal.S16x3x16x1024 EltTy.f32)

variable (m : (ℓ : Loc nD τ sig) → Buf (Elt F) ℓ)

/-! ## The chunks -/

/-- What `out` is to hold: `emb`. -/
abbrev X (d : Dev nD) : Buf (Elt F) (oLoc d) := m (eLoc d)

/-- Chunk `t` of `emb` and of `out`, the latter at contents `f`. -/
abbrev chunkPts (d : Dev nD) (f : Buf (Elt F) (oLoc d)) (t : Fin 2 × Fin 16 × Fin 16) : sProp 𝕄 :=
  iprop((eLoc d ↦[chunk t]{fullShare} m (eLoc d)) ∗ oLoc d ↦[chunk t]{fullShare} f)

/-- The sixteen chunks of task `(c, s)`. -/
abbrev taskPts (d : Dev nD) (f : Buf (Elt F) (oLoc d)) (c : Fin 2) (s : Fin 16) : sProp 𝕄 :=
  bigSep Finset.univ fun k : Fin 16 => chunkPts m d f (c, s, k)

/-- Slot `b` of subcore `s` in the shared scratch of SparseCore `c`, at some contents. -/
abbrev shPts (d : Dev nD) (c : Fin τ.nSC) (s : Fin 16) (b : Fin 3) : sProp 𝕄 :=
  iprop(∃ f, shLoc d c ↦[shSlot (s, b)]{fullShare} f)

section Tile

variable (d : Dev nD) (L : grid0.Coords)

/-- The rows of `emb` that a step of the first pipe reads, -/
abbrev eS (w : BitVec 32) (h : ∀ a, k0_off1 L w a + S16x1024.size a ≤ S8192x1024.size a) : Memref sig .scVector .hbm S16x1024 .f32 :=
  (eV).slice (Rect.unit (s := S8192x1024) (k0_off1 L w) S16x1024.size h) (fun _ => rfl)
/-- and the rows of `out` that it writes. -/
abbrev oS (w : BitVec 32) (h : ∀ a, k0_off1 L w a + S16x1024.size a ≤ S8192x1024.size a) : Memref sig .scVector .hbm S16x1024 .f32 :=
  (oV).slice (Rect.unit (s := S8192x1024) (k0_off1 L w) S16x1024.size h) (fun _ => rfl)
/-- The rows of `emb` that a step of the second pipe reads, -/
abbrev eD (w : BitVec 32) (h : ∀ a, k0_off3 L w a + S16x1024.size a ≤ S8192x1024.size a) : Memref sig .scVector .hbm S16x1024 .f32 :=
  (eV).slice (Rect.unit (s := S8192x1024) (k0_off3 L w) S16x1024.size h) (fun _ => rfl)
/-- and the rows of `out` that it writes. -/
abbrev oD (w : BitVec 32) (h : ∀ a, k0_off3 L w a + S16x1024.size a ≤ S8192x1024.size a) : Memref sig .scVector .hbm S16x1024 .f32 :=
  (oV).slice (Rect.unit (s := S8192x1024) (k0_off3 L w) S16x1024.size h) (fun _ => rfl)

/-- A chunk of the first pipe, spelt as the kernel slices it. -/
abbrev pairS (w : BitVec 32) (h : ∀ a, k0_off1 L w a + S16x1024.size a ≤ S8192x1024.size a) (f : Buf (Elt F) (oLoc d)) : sProp 𝕄 :=
  iprop(((eS L w h).view.loc (thr d L) ↦[(eS L w h).view.set]{fullShare} m (eLoc d)) ∗ (oS L w h).view.loc (thr d L) ↦[(oS L w h).view.set]{fullShare} f)
/-- A chunk of the second pipe, spelt as the kernel slices it. -/
abbrev pairD (w : BitVec 32) (h : ∀ a, k0_off3 L w a + S16x1024.size a ≤ S8192x1024.size a) (f : Buf (Elt F) (oLoc d)) : sProp 𝕄 :=
  iprop(((eD L w h).view.loc (thr d L) ↦[(eD L w h).view.set]{fullShare} m (eLoc d)) ∗ (oD L w h).view.loc (thr d L) ↦[(oD L w h).view.set]{fullShare} f)

/-- A chunk held through slices of the two arrays by one rectangle is the chunk of that set of elements. -/
theorem chunkPts_rect (r : Rect S8192x1024) (hr : ∀ a, r.stride a = 1) (t : Fin 2 × Fin 16 × Fin 16) (e : r.set = chunk t) (f : Buf (Elt F) (oLoc d)) :
    chunkPts m d f t = iprop((((eV).slice r hr).view.loc (thr d L) ↦[((eV).slice r hr).view.set]{fullShare} m (eLoc d))
      ∗ ((oV).slice r hr).view.loc (thr d L) ↦[((oV).slice r hr).view.set]{fullShare} f) := by
  have he : ((eV).slice r hr).view.set = chunk t := (View.set_slice_whole main_arg1_scv r).trans e
  have ho : ((oV).slice r hr).view.set = chunk t := (View.set_slice_whole main_v0_scv r).trans e
  rw [he, ho]

/-- Step `r` of the first pipe holds chunk `r` of the task, -/
theorem pairS_eq (r : Fin 9) (f : Buf (Elt F) (oLoc d)) :
    chunkPts m d f (c2 L, s16 L, ⟨r.val, by omega⟩) = pairS m d L (BitVec.ofNat 32 (16 * r.val)) (k0_off1_inb L r) f :=
  chunkPts_rect m d L _ _ _ (set_rS L r) f
/-- and step `r` of the second pipe chunk `9 + r`. -/
theorem pairD_eq (r : Fin 7) (f : Buf (Elt F) (oLoc d)) :
    chunkPts m d f (c2 L, s16 L, ⟨9 + r.val, by omega⟩) = pairD m d L (BitVec.ofNat 32 (16 * r.val)) (k0_off3_inb L r) f :=
  chunkPts_rect m d L _ _ _ (set_rD L r) f

/-- A task's chunks one by one, spelt as the kernel slices them. -/
theorem taskPts_eq (f : Buf (Elt F) (oLoc d)) :
    taskPts m d f (c2 L) (s16 L) = iprop(
      pairS m d L 0#32 (k0_off1_inb L 0) f ∗
      pairS m d L 16#32 (k0_off1_inb L 1) f ∗
      pairS m d L 32#32 (k0_off1_inb L 2) f ∗
      pairS m d L 48#32 (k0_off1_inb L 3) f ∗
      pairS m d L 64#32 (k0_off1_inb L 4) f ∗
      pairS m d L 80#32 (k0_off1_inb L 5) f ∗
      pairS m d L 96#32 (k0_off1_inb L 6) f ∗
      pairS m d L 112#32 (k0_off1_inb L 7) f ∗
      pairS m d L 128#32 (k0_off1_inb L 8) f ∗
      pairD m d L 0#32 (k0_off3_inb L 0) f ∗
      pairD m d L 16#32 (k0_off3_inb L 1) f ∗
      pairD m d L 32#32 (k0_off3_inb L 2) f ∗
      pairD m d L 48#32 (k0_off3_inb L 3) f ∗
      pairD m d L 64#32 (k0_off3_inb L 4) f ∗
      pairD m d L 80#32 (k0_off3_inb L 5) f ∗
      pairD m d L 96#32 (k0_off3_inb L 6) f) := by
  unfold taskPts
  simp only [bigSep_univ_succ, bigSep_univ_of_subsingleton (0 : Fin 1)]
  exact congrArg₂ BI.sep (pairS_eq m d L 0 f) (congrArg₂ BI.sep (pairS_eq m d L 1 f) (congrArg₂ BI.sep (pairS_eq m d L 2 f) (congrArg₂ BI.sep (pairS_eq m d L 3 f) (congrArg₂ BI.sep (pairS_eq m d L 4 f) (congrArg₂ BI.sep (pairS_eq m d L 5 f) (congrArg₂ BI.sep (pairS_eq m d L 6 f) (congrArg₂ BI.sep (pairS_eq m d L 7 f) (congrArg₂ BI.sep (pairS_eq m d L 8 f) (congrArg₂ BI.sep (pairD_eq m d L 0 f) (congrArg₂ BI.sep (pairD_eq m d L 1 f) (congrArg₂ BI.sep (pairD_eq m d L 2 f) (congrArg₂ BI.sep (pairD_eq m d L 3 f) (congrArg₂ BI.sep (pairD_eq m d L 4 f) (congrArg₂ BI.sep (pairD_eq m d L 5 f) (pairD_eq m d L 6 f)))))))))))))))

/-! ## The subcore's own semaphores and scratch -/

/-- Entry `off` of the array `a` of DMA semaphores, the subcore's. -/
abbrev cell (a : DmaSems sig S3) (off : Fin 1 → Nat) (h : ∀ a, off a + S1.size a ≤ S3.size a) : GSem nD τ sig := (thr d L, .dma (semK a off h))

/-- A DMA semaphore of the subcore, by its number. -/
abbrev dmaCell : Fin 12 ↪ GSem nD τ sig := ⟨fun k => (thr d L, .dma k), fun _ _ h => by simpa using h⟩

/-- The twelve DMA semaphores are the subcore's own. -/
theorem dmaCells_sub : (Finset.univ : Finset (Fin 12)).map (dmaCell d L) ⊆ ownCells (thr d L) := by
  intro g hg
  obtain ⟨k, -, rfl⟩ := Finset.mem_map.mp hg
  exact mem_ownCells.mpr ⟨rfl, (by decide : ∀ k : Fin 12, (SemLoc.dma k : SemLoc sig).isScoped .scVector = true) k⟩

/-- The subcore's semaphores at zero are the twelve of the kernel's four arrays and the rest. -/
theorem ownSems0_V : (ownSems0 (thr d L) : sProp 𝕄) = iprop((
      semVal (cell d L cc0_scratch2 ![0] inb_S3_S1_0) 0 ∗
      semVal (cell d L cc0_scratch2 ![1] inb_S3_S1_1) 0 ∗
      semVal (cell d L cc0_scratch2 ![2] inb_S3_S1_2) 0 ∗
      semVal (cell d L cc0_scratch3 ![0] inb_S3_S1_0) 0 ∗
      semVal (cell d L cc0_scratch3 ![1] inb_S3_S1_1) 0 ∗
      semVal (cell d L cc0_scratch3 ![2] inb_S3_S1_2) 0 ∗
      semVal (cell d L cc0_scratch4 ![0] inb_S3_S1_0) 0 ∗
      semVal (cell d L cc0_scratch4 ![1] inb_S3_S1_1) 0 ∗
      semVal (cell d L cc0_scratch4 ![2] inb_S3_S1_2) 0 ∗
      semVal (cell d L cc0_scratch5 ![0] inb_S3_S1_0) 0 ∗
      semVal (cell d L cc0_scratch5 ![1] inb_S3_S1_1) 0 ∗
      semVal (cell d L cc0_scratch5 ![2] inb_S3_S1_2) 0)
      ∗ bigSep (ownCells (thr d L) \ (Finset.univ : Finset (Fin 12)).map (dmaCell d L)) fun g => semVal g 0) := by
  unfold SparseCore.Cfg.ownSems0
  rw [SparseCore.bigSep_sdiff_split' (dmaCells_sub d L), bigSep_map]
  simp only [bigSep_univ_succ, bigSep_univ_of_subsingleton (0 : Fin 1)]
  rfl

/-- The subcore's scratch is among its own buffers: its three slots, each at some contents, and the rest. -/
theorem ownBufs_V :
    (ownBufs (thr d L) : sProp 𝕄)
      = iprop((∃ f, (thr d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- A slot of the subcore's own scratch, spelt as the kernel slices it. -/
abbrev slotPts (off : Fin 3 → Nat) (h : ∀ a, off a + S1x16x1024.size a ≤ S3x16x1024.size a) (f : Buf (Elt F) ((thr d L).loc cc0_scratch0)) : sProp 𝕄 :=
  (bK off h).view.loc (thr d L) ↦[(bK off h).view.set]{fullShare} f
/-- A slot of the shared scratch, spelt as the kernel slices it. -/
abbrev shSlotPts (off : Fin 4 → Nat) (h : ∀ a, off a + S1x1x16x1024.size a ≤ S16x3x16x1024.size a) (f : Buf (Elt F) (shLoc d (cV L))) : sProp 𝕄 :=
  (hK off h).view.loc (thr d L) ↦[(hK off h).view.set]{fullShare} f

/-- So spelt, it is slot `b`. -/
theorem slotPts_eq {off : Fin 3 → Nat} {h : ∀ a, off a + S1x16x1024.size a ≤ S3x16x1024.size a} (b : Fin 3) (e : off = ![b.val, 0, 0])
    (f : Buf (Elt F) ((thr d L).loc cc0_scratch0)) :
    ((thr d L).loc cc0_scratch0 ↦[slot b]{fullShare} f : sProp 𝕄) = slotPts d L off h f := by
  unfold slotPts; rw [set_bK b e]
/-- So spelt, it is slot `b` of the task. -/
theorem shSlotPts_eq {off : Fin 4 → Nat} {h : ∀ a, off a + S1x1x16x1024.size a ≤ S16x3x16x1024.size a} (b : Fin 3) (e : off = ![(s16 L).val, b.val, 0, 0])
    (f : Buf (Elt F) (shLoc d (cV L))) :
    (shLoc d (cV L) ↦[shSlot (s16 L, b)]{fullShare} f : sProp 𝕄) = shSlotPts d L off h f := by
  unfold shSlotPts; rw [set_hK (s16 L) b e]; rfl

/-- A family of three, one by one. -/
theorem bigSep_three (Φ : Fin 3 → sProp 𝕄) : bigSep Finset.univ Φ = iprop(Φ 0 ∗ Φ 1 ∗ Φ 2) := by
  simp only [bigSep_univ_succ, bigSep_univ_of_subsingleton (0 : Fin 1)]; rfl

/-- A buffer held in disjoint parts, each at contents of its own, is held whole at some contents. -/
theorem parts_join {ℓ : Loc nD τ sig} {I : Type} [Fintype I] [DecidableEq I] [Inhabited I] (C : I → Finset (Idx ℓ))
    (hC : ∀ i ∈ (Finset.univ : Finset I), ∀ j ∈ (Finset.univ : Finset I), i ≠ j → Disjoint (C i) (C j)) (cover : Finset.univ.biUnion C = Finset.univ) :
    (bigSep Finset.univ fun i : I => iprop(∃ f, ℓ ↦[C i]{fullShare} f)) ⊢ (iprop(∃ f, ℓ ↦{fullShare} f) : sProp 𝕄) := by
  by_cases hB : Nonempty (Buf (Elt F) ℓ)
  · refine (bigSep_exists_pi Finset.univ (fun i (f : Buf (Elt F) ℓ) => ℓ ↦[C i]{fullShare} f)).trans ?_
    iintro ⟨%fs, H⟩
    ihave H' := (pointsTo_biUnion_join Finset.univ C fs (fs default) hC) $$ H
    icases H' with ⟨%g, -, Hg⟩
    rw [cover]
    iexists g; iexact Hg
  · rw [bigSep_univ_at _ (default : I)]
    iintro ⟨⟨%f, -⟩, -⟩
    exact (hB ⟨f⟩).elim

/-- The scratch whole is its three slots. -/
theorem slots_split (f : Buf (Elt F) ((thr d L).loc cc0_scratch0)) :
    ((thr d L).loc cc0_scratch0 ↦{fullShare} f : sProp 𝕄) = iprop(slotPts d L ![0, 0, 0] inb_S3x16x1024_S1x16x1024_0_0_0 f
      ∗ slotPts d L ![1, 0, 0] inb_S3x16x1024_S1x16x1024_1_0_0 f ∗ slotPts d L ![2, 0, 0] inb_S3x16x1024_S1x16x1024_2_0_0 f) := by
  rw [← slotPts_eq d L (off := ![0, 0, 0]) 0 rfl, ← slotPts_eq d L (off := ![1, 0, 0]) 1 rfl, ← slotPts_eq d L (off := ![2, 0, 0]) 2 rfl,
    show ((thr d L).loc cc0_scratch0 ↦{fullShare} f : sProp 𝕄) = (thr d L).loc cc0_scratch0 ↦[Finset.univ.biUnion slot]{fullShare} f by rw [slot_cover],
    pointsTo_biUnion Finset.univ (ℓ := (thr d L).loc cc0_scratch0) slot slot_disjoint, bigSep_three]

/-- The three slots, each at contents of its own, are the scratch whole at some contents. -/
theorem slots_join :
    iprop((∃ f, slotPts (F := F) d L ![0, 0, 0] inb_S3x16x1024_S1x16x1024_0_0_0 f)
      ∗ (∃ f, slotPts (F := F) d L ![1, 0, 0] inb_S3x16x1024_S1x16x1024_1_0_0 f) ∗ ∃ f, slotPts (F := F) d L ![2, 0, 0] inb_S3x16x1024_S1x16x1024_2_0_0 f)
      ⊢ (iprop(∃ f, (thr d L).loc cc0_scratch0 ↦{fullShare} f) : sProp 𝕄) := by
  simp only [← slotPts_eq d L (off := ![0, 0, 0]) 0 rfl, ← slotPts_eq d L (off := ![1, 0, 0]) 1 rfl, ← slotPts_eq d L (off := ![2, 0, 0]) 2 rfl]
  rw [← bigSep_three (fun b : Fin 3 => iprop(∃ f : Buf (Elt F) ((thr d L).loc cc0_scratch0), (thr d L).loc cc0_scratch0 ↦[slot b]{fullShare} f))]
  exact parts_join (ℓ := (thr d L).loc cc0_scratch0) slot slot_disjoint slot_cover

/-- The three slots that the task has in the shared scratch. -/
theorem shPts_split :
    (bigSep Finset.univ fun b : Fin 3 => shPts (F := F) d (cV L) (s16 L) b) = iprop((∃ f, shSlotPts (F := F) d L (k0_off2 L) (k0_off2_inb L) f)
      ∗ (∃ f, shSlotPts (F := F) d L (k0_off4 L) (k0_off4_inb L) f) ∗ ∃ f, shSlotPts (F := F) d L (k0_off5 L) (k0_off5_inb L) f) := by
  rw [bigSep_three]; unfold shPts
  simp only [shSlotPts_eq d L (off := k0_off2 L) (h := k0_off2_inb L) 0 (k0_off2_eq L),
    shSlotPts_eq d L (off := k0_off4 L) (h := k0_off4_inb L) 1 (k0_off4_eq L), shSlotPts_eq d L (off := k0_off5 L) (h := k0_off5_inb L) 2 (k0_off5_eq L)]

/-! ## What a chunk ends at -/

/-- What is read of a slot just filled is what filled it. -/
theorem read_filled {κ : Kind} {sp : Space} {s : Shape} {e : EltTy} (v : View sig κ sp s e) (g : v.ty.Contents (Elt F)) (w : s.Idx → Elt F e)
    (l : List (View.Piece (Elt F) s e)) : v.read (Elt F) (v.writes (Elt F) g (⟨Rect.whole s, w⟩ :: l)) = w :=
  funext fun y => View.read_writes_cons_hit v g (Rect.whole s) w l y y (Rect.emb_whole_apply s y)

/-- A chunk of `out` overwritten with what was read of the same chunk of `emb` holds `emb` there. -/
theorem chunk_done (r : Rect S8192x1024) (hr : ∀ a, r.stride a = 1) (f : Buf (Elt F) (oLoc d)) (w : r.shape.Idx → Elt F .f32)
    (hw : w = ((eV).slice r hr).view.read (Elt F) (m (eLoc d))) :
    (((oV).slice r hr).view.loc (thr d L) ↦[((oV).slice r hr).view.set]{fullShare}
        ((oV).slice r hr).view.writes (Elt F) f [⟨Rect.whole r.shape, w⟩] : sProp 𝕄)
      = ((oV).slice r hr).view.loc (thr d L) ↦[((oV).slice r hr).view.set]{fullShare} X m d := by
  refine pointsTo_congr fun i hi => ?_
  obtain ⟨y, -, rfl⟩ := Finset.mem_map.mp hi
  have e := congrFun (read_filled ((oV).slice r hr).view f w []) y
  rw [hw, View.read_apply, View.read_apply] at e
  subst hw
  exact (cast_eq _ _).symm.trans (e.trans (cast_eq _ _))

/-- The same of a chunk of the first pipe. -/
theorem doneS (w : BitVec 32) (h : ∀ a, k0_off1 L w a + S16x1024.size a ≤ S8192x1024.size a) (f : Buf (Elt F) (oLoc d))
    (pay : S16x1024.Idx → Elt F .f32) (hpay : pay = (eS L w h).view.read (Elt F) (m (eLoc d))) :
    ((oS L w h).view.loc (thr d L) ↦[(oS L w h).view.set]{fullShare} (oS L w h).view.writes (Elt F) f [⟨Rect.whole S16x1024, pay⟩] : sProp 𝕄)
      = (oS L w h).view.loc (thr d L) ↦[(oS L w h).view.set]{fullShare} X m d :=
  chunk_done m d L (rS L w h) (fun _ => rfl) f pay hpay

/-- The same of a chunk of the second pipe. -/
theorem doneD (w : BitVec 32) (h : ∀ a, k0_off3 L w a + S16x1024.size a ≤ S8192x1024.size a) (f : Buf (Elt F) (oLoc d))
    (pay : S16x1024.Idx → Elt F .f32) (hpay : pay = (eD L w h).view.read (Elt F) (m (eLoc d))) :
    ((oD L w h).view.loc (thr d L) ↦[(oD L w h).view.set]{fullShare} (oD L w h).view.writes (Elt F) f [⟨Rect.whole S16x1024, pay⟩] : sProp 𝕄)
      = (oD L w h).view.loc (thr d L) ↦[(oD L w h).view.set]{fullShare} X m d :=
  chunk_done m d L (rD L w h) (fun _ => rfl) f pay hpay

variable [FloatOps F]

set_option maxHeartbeats 4000000 in
/-- The task at any grid point `L`: from its sixteen chunks of `emb` and `out`, its three slots of the shared scratch and its own
    scratch and semaphores, the kernel's function ends with the same in hand, its chunks of `out` holding `emb`. -/
theorem tile_body (hF : (K (F := F)).Facts) (O : CellTallies nD τ sig (HIx 1)) (W : Waits sig (HIx 1)) (hO : ∀ g, O g none = 0) :
    iprop(levAts (K (F := F)).L (K (F := F)).lev ∗ emp
        ∗ (taskPts m d (m (oLoc d)) (c2 L) (s16 L) ∗ bigSep Finset.univ fun b : Fin 3 => shPts (F := F) d (cV L) (s16 L) b)
        ∗ scopedBufs (thr d L) ∗ scopedSems0 (thr d L) ∗ owes (thr d L) O W)
      ⊢ wp frame (wpE (defs₀ (F := F)) 𝒱₀ (thr d L) none) Set.univ
          (cc0_copy_kernel L eV (Memref.isWhole_whole _) oV (Memref.isWhole_whole _) bV (Memref.isWhole_whole _)
            hV (Memref.isWhole_whole _) cc0_scratch2 cc0_scratch3 cc0_scratch4 cc0_scratch5)
          fun _ => iprop((taskPts m d (X m d) (c2 L) (s16 L) ∗ bigSep Finset.univ fun b : Fin 3 => shPts (F := F) d (cV L) (s16 L) b)
            ∗ scopedBufs (thr d L) ∗ scopedSems0 (thr d L)
            ∗ ∃ W', ⌜∀ p ∈ W', p ∈ W ∨ p.2 = none⌝ ∗ owes (thr d L) O W') := by
  simp only [cc0_copy_kernel_eq_skeleton]; unfold cc0_copy_kernel_skel
  rw [(K (F := F)).scopedBufs_V hF d (cV L) (jV L), SparseCore.Cfg.scopedSems0_V (Val := Elt F) d (cV L) (jV L), ownSems0_V, ownBufs_V,
    taskPts_eq, shPts_split]
  iintro ⟨#Hlv, -, ⟨⟨⟨He0, Ho0⟩, ⟨He1, Ho1⟩, ⟨He2, Ho2⟩, ⟨He3, Ho3⟩, ⟨He4, Ho4⟩, ⟨He5, Ho5⟩, ⟨He6, Ho6⟩, ⟨He7, Ho7⟩, ⟨He8, Ho8⟩, ⟨He9, Ho9⟩, ⟨He10, Ho10⟩, ⟨He11, Ho11⟩, ⟨He12, Ho12⟩, ⟨He13, Ho13⟩, ⟨He14, Ho14⟩, ⟨He15, Ho15⟩⟩, ⟨%g0, Hh0⟩, ⟨%g1, Hh1⟩, ⟨%g2, Hh2⟩⟩, ⟨⟨%fb, Hb⟩, Hbufs⟩, ⟨⟨Hs0, Hs1, Hs2, Hs3, Hs4, Hs5, Hs6, Hs7, Hs8, Hs9, Hs10, Hs11⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hb := (Entails.of_eq (slots_split d L fb)) $$ Hb
  icases Hb with ⟨Hb0, Hb1, Hb2⟩
  sl_exec
  sl_step
  ihave Ho0 := (Entails.of_eq (doneS m d L 0#32 (k0_off1_inb L 0) _ (tile_body.sl.dma0_6 m d L fb) (read_filled _ _ _ _))) $$ Ho0
  ihave Ho1 := (Entails.of_eq (doneS m d L 16#32 (k0_off1_inb L 1) _ (tile_body.sl.dma0_10 m d L fb) (read_filled _ _ _ _))) $$ Ho1
  ihave Ho2 := (Entails.of_eq (doneS m d L 32#32 (k0_off1_inb L 2) _ (tile_body.sl.dma0_14 m d L fb) (read_filled _ _ _ _))) $$ Ho2
  ihave Ho3 := (Entails.of_eq (doneS m d L 48#32 (k0_off1_inb L 3) _ (tile_body.sl.dma0_18 m d L fb) (read_filled _ _ _ _))) $$ Ho3
  ihave Ho4 := (Entails.of_eq (doneS m d L 64#32 (k0_off1_inb L 4) _ (tile_body.sl.dma0_22 m d L fb) (read_filled _ _ _ _))) $$ Ho4
  ihave Ho5 := (Entails.of_eq (doneS m d L 80#32 (k0_off1_inb L 5) _ (tile_body.sl.dma0_25 m d L fb) (read_filled _ _ _ _))) $$ Ho5
  ihave Ho6 := (Entails.of_eq (doneS m d L 96#32 (k0_off1_inb L 6) _ (tile_body.sl.dma0_28 m d L fb) (read_filled _ _ _ _))) $$ Ho6
  ihave Ho7 := (Entails.of_eq (doneS m d L 112#32 (k0_off1_inb L 7) _ (tile_body.sl.dma0_30 m d L fb) (read_filled _ _ _ _))) $$ Ho7
  ihave Ho8 := (Entails.of_eq (doneS m d L 128#32 (k0_off1_inb L 8) _ (tile_body.sl.dma0_31 m d L fb) (read_filled _ _ _ _))) $$ Ho8
  ihave Ho9 := (Entails.of_eq (doneD m d L 0#32 (k0_off3_inb L 0) _ (tile_body.sl.dma0_8 m d L g0) (read_filled _ _ _ _))) $$ Ho9
  ihave Ho10 := (Entails.of_eq (doneD m d L 16#32 (k0_off3_inb L 1) _ (tile_body.sl.dma0_12 m d L g1) (read_filled _ _ _ _))) $$ Ho10
  ihave Ho11 := (Entails.of_eq (doneD m d L 32#32 (k0_off3_inb L 2) _ (tile_body.sl.dma0_16 m d L g2) (read_filled _ _ _ _))) $$ Ho11
  ihave Ho12 := (Entails.of_eq (doneD m d L 48#32 (k0_off3_inb L 3) _ (tile_body.sl.dma0_20 m d L g0) (read_filled _ _ _ _))) $$ Ho12
  ihave Ho13 := (Entails.of_eq (doneD m d L 64#32 (k0_off3_inb L 4) _ (tile_body.sl.dma0_24 m d L g1) (read_filled _ _ _ _))) $$ Ho13
  ihave Ho14 := (Entails.of_eq (doneD m d L 80#32 (k0_off3_inb L 5) _ (tile_body.sl.dma0_27 m d L g2) (read_filled _ _ _ _))) $$ Ho14
  ihave Ho15 := (Entails.of_eq (doneD m d L 96#32 (k0_off3_inb L 6) _ (tile_body.sl.dma0_29 m d L g0) (read_filled _ _ _ _))) $$ Ho15
  rw [taskPts_eq]
  isplitl [He0 Ho0 He1 Ho1 He2 Ho2 He3 Ho3 He4 Ho4 He5 Ho5 He6 Ho6 He7 Ho7 He8 Ho8 He9 Ho9 He10 Ho10 He11 Ho11 He12 Ho12 He13 Ho13 He14 Ho14 He15 Ho15 Hh0 Hh1 Hh2]
  · isplitl [He0 Ho0 He1 Ho1 He2 Ho2 He3 Ho3 He4 Ho4 He5 Ho5 He6 Ho6 He7 Ho7 He8 Ho8 He9 Ho9 He10 Ho10 He11 Ho11 He12 Ho12 He13 Ho13 He14 Ho14 He15 Ho15]
    · iframe He0 Ho0 He1 Ho1 He2 Ho2 He3 Ho3 He4 Ho4 He5 Ho5 He6 Ho6 He7 Ho7 He8 Ho8 He9 Ho9 He10 Ho10 He11 Ho11 He12 Ho12 He13 Ho13 He14 Ho14 He15 Ho15
    isplitl [Hh0]; · iexists _; iexact Hh0
    isplitl [Hh1]; · iexists _; iexact Hh1
    iexists _; iexact Hh2
  isplitl [Hb0 Hb1 Hb2 Hbufs]
  · isplitr [Hbufs]; swap; · iexact Hbufs
    iapply (slots_join d L)
    isplitl [Hb0]; · iexists _; iexact Hb0
    isplitl [Hb1]; · iexists _; iexact Hb1
    iexists _; iexact Hb2
  isplitl [Hs0 Hs1 Hs2 Hs3 Hs4 Hs5 Hs6 Hs7 Hs8 Hs9 Hs10 Hs11 Hsems]
  · isplitr [Hsems]; swap; · iexact Hsems
    iframe Hs0 Hs1 Hs2 Hs3 Hs4 Hs5 Hs6 Hs7 Hs8 Hs9 Hs10 Hs11
  iexists _; isplitr
  swap; · iexact HO
  ipureintro; intro p hp
  iterate 32 (rcases Finset.mem_insert.mp hp with hp | hp; · exact .inr (hp ▸ rfl))
  exact .inl hp

end Tile

end Cert.Proof.Copy

end
-- ==== Proof.Launch.lean ====
/-
  The run of the whole program: each SparseCore is handed the chunks of its sixteen tasks, each task its sixteen chunks and
  its three slots of the shared scratch; the tasks bring the chunks of `out` back holding `emb`, which together are `out`.
  The run is stated once, over any float values (`run_main`).
-/
module

public import proofs.«01_k».proof.Proof.Tile
public import Idealize.ShloMosaic.Lib.StableHlo.Run

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "eV" => (Memref.whole Cert.KernelIdeal.main_arg1_scv : Memref Cert.KernelIdeal.sig Kind.scVector Space.hbm Cert.KernelIdeal.S8192x1024 EltTy.f32)
local notation "oV" => (Memref.whole Cert.KernelIdeal.main_v0_scv : Memref Cert.KernelIdeal.sig Kind.scVector Space.hbm Cert.KernelIdeal.S8192x1024 EltTy.f32)
local notation "bV" => (Memref.whole Cert.KernelIdeal.cc0_scratch0 : Memref Cert.KernelIdeal.sig Kind.scVector Space.vmem Cert.KernelIdeal.S3x16x1024 EltTy.f32)
local notation "hV" => (Memref.whole Cert.KernelIdeal.cc0_scratch1 : Memref Cert.KernelIdeal.sig Kind.scVector Space.shared Cert.KernelIdeal.S16x3x16x1024 EltTy.f32)

variable (m : (ℓ : Loc nD τ sig) → Buf (Elt F) ℓ) (ρ : Dev nD → PrngReg)

/-! ## What the handshakes carry -/

/-- The call runs on two SparseCores, -/
theorem nCore_zero : (K (F := F)).nCore 0 = 2 := rfl
/-- and on sixteen vector subcores of each. -/
theorem nSub_zero : (K (F := F)).nSub 0 = 16 := rfl
/-- SparseCore `c` of the call, as one of the device's. -/
abbrev coreOf (c : Fin 2) : Fin τ.nSC := c.castLE hcore0

/-- The three slots of task `(c, s)` in the shared scratch. -/
abbrev shTask (d : Dev nD) (c : Fin 2) (s : Fin 16) : sProp 𝕄 := bigSep Finset.univ fun b : Fin 3 => shPts (F := F) d (coreOf c) s b

/-- What a SparseCore is handed, and brings back: the chunks of its tasks, those of `out` at contents `f`. -/
abbrev corePts (d : Dev nD) (f : Buf (Elt F) (oLoc d)) (c : Fin 2) : sProp 𝕄 := bigSep Finset.univ fun s : Fin 16 => taskPts m d f c s

/-- A SparseCore is handed the chunks of its tasks, a task its own and its slots of the shared scratch; the chunks of
    `out` come back holding `emb`. -/
def P : (K (F := F)).Pay (nD := nD) (Val := Elt F) (Name := ℕ) (U := UU) where
  st := fun q d c => match q with | 0 => corePts m d (m (oLoc d)) (Fin.cast nCore_zero c)
  dn := fun q d c => match q with | 0 => corePts m d (X m d) (Fin.cast nCore_zero c)
  go := fun q d c i => match q with
    | 0 => iprop(taskPts m d (m (oLoc d)) (Fin.cast nCore_zero c) (Fin.cast nSub_zero i) ∗ shTask (F := F) d (Fin.cast nCore_zero c) (Fin.cast nSub_zero i))
  td := fun q d c i => match q with
    | 0 => iprop(taskPts m d (X m d) (Fin.cast nCore_zero c) (Fin.cast nSub_zero i) ∗ shTask (F := F) d (Fin.cast nCore_zero c) (Fin.cast nSub_zero i))
  x := fun _ _ => iprop(emp)

/-- What the handshakes carry may be kept in an invariant. -/
instance P_storable : (P (F := F) m).IsStorable where
  st q d c := match q with
    | 0 => (inferInstance : BI.Storable (upEmb : UEmb _ 𝕄) (corePts m d (m (oLoc d)) (Fin.cast nCore_zero c)))
  dn q d c := match q with
    | 0 => (inferInstance : BI.Storable (upEmb : UEmb _ 𝕄) (corePts m d (X m d) (Fin.cast nCore_zero c)))
  go q d c i := match q with
    | 0 => (inferInstance : BI.Storable (upEmb : UEmb _ 𝕄)
      iprop(taskPts m d (m (oLoc d)) (Fin.cast nCore_zero c) (Fin.cast nSub_zero i) ∗ shTask (F := F) d (Fin.cast nCore_zero c) (Fin.cast nSub_zero i)))
  td q d c i := match q with
    | 0 => (inferInstance : BI.Storable (upEmb : UEmb _ 𝕄)
      iprop(taskPts m d (X m d) (Fin.cast nCore_zero c) (Fin.cast nSub_zero i) ∗ shTask (F := F) d (Fin.cast nCore_zero c) (Fin.cast nSub_zero i)))

/-! ## The tasks' obligation -/

section Obligation

variable [FloatOps F]

/-- A grid point from its two coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The function a vector subcore runs for the call is the kernel at its grid point. -/
theorem defs₀_vector (c : Fin τ.nSC) (s : Fin τ.nSub) :
    defs₀ (F := F) (.scVector c s) 0 ()
      = SparseCore.onTile hcore0 hsub0 (fun c s => cc0_copy_kernel (coordsV c s)
          eV (Memref.isWhole_whole _) oV (Memref.isWhole_whole _) bV (Memref.isWhole_whole _)
          hV (Memref.isWhole_whole _) cc0_scratch2 cc0_scratch3 cc0_scratch4 cc0_scratch5) ⟨⟩ c s := rfl

/-- A task that waits at no call of its own meets what the launch asks of its waits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each task of the call does what `P` says of it (`tile_body`). -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Obligation

/-! ## A SparseCore's chunks and shared scratch, dealt to its tasks -/

/-- A family over the subcores of the call is one over sixteen, -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- and a family over its SparseCores one over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The shared scratch of a SparseCore is among its sequencer's own buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

/-- The shared scratch whole is the slots of the sixteen tasks, -/
theorem sh_split (d : Dev nD) (c : Fin 2) :
    (iprop(∃ f, shLoc d (coreOf c) ↦{fullShare} f) : sProp 𝕄) ⊢ bigSep Finset.univ fun s : Fin 16 => shTask (F := F) d c s := by
  iintro ⟨%f, H⟩
  ihave H := (Entails.of_eq (show (shLoc d (coreOf c) ↦{fullShare} f : sProp 𝕄) = bigSep Finset.univ fun t : Fin 16 × Fin 3 => shLoc d (coreOf c) ↦[shSlot t]{fullShare} f by
    rw [← pointsTo_biUnion Finset.univ (ℓ := shLoc d (coreOf c)) shSlot shSlot_disjoint, shSlot_cover])) $$ H
  rw [← bigSep_univ_prod (fun t : Fin 16 × Fin 3 => shPts (F := F) d (coreOf c) t.1 t.2)]
  ihave H := (SparseCore.ent (bigSep_mono (Φ := fun t : Fin 16 × Fin 3 => (shLoc d (coreOf c) ↦[shSlot t]{fullShare} f : sProp 𝕄))
    (Ψ := fun t => shPts (F := F) d (coreOf c) t.1 t.2) fun t _ => BI.BIClass.exists_intro (Φ := fun f => (shLoc d (coreOf c) ↦[shSlot t]{fullShare} f : sProp 𝕄)) f)) $$ H
  iexact H

/-- and back, each at contents of its own. -/
theorem sh_join (d : Dev nD) (c : Fin 2) :
    (bigSep Finset.univ fun s : Fin 16 => shTask (F := F) d c s) ⊢ (iprop(∃ f, shLoc d (coreOf c) ↦{fullShare} f) : sProp 𝕄) := by
  rw [← bigSep_univ_prod (fun t : Fin 16 × Fin 3 => shPts (F := F) d (coreOf c) t.1 t.2)]
  exact parts_join (ℓ := shLoc d (coreOf c)) shSlot shSlot_disjoint shSlot_cover

/-- A SparseCore deals its chunks and its shared scratch to its tasks, and from what they bring back it has the chunks of `out`
    holding `emb` and its scratch again. -/
theorem vecSplit : (K (F := F)).VecSplit (P m) 0 := by
  intro d c
  show iprop(corePts m d (m (oLoc d)) (Fin.cast nCore_zero c) ∗ ownBufs (S d (coreOf (Fin.cast nCore_zero c)))) ⊢ |={Set.univ}=> iprop(
      (bigSep Finset.univ fun i : Fin ((K (F := F)).nSub 0) => iprop(taskPts m d (m (oLoc d)) (Fin.cast nCore_zero c) (Fin.cast nSub_zero i)
        ∗ shTask (F := F) d (Fin.cast nCore_zero c) (Fin.cast nSub_zero i)))
      ∗ ((bigSep Finset.univ fun i : Fin ((K (F := F)).nSub 0) => iprop(taskPts m d (X m d) (Fin.cast nCore_zero c) (Fin.cast nSub_zero i)
        ∗ shTask (F := F) d (Fin.cast nCore_zero c) (Fin.cast nSub_zero i)))
          -∗ iprop(corePts m d (X m d) (Fin.cast nCore_zero c) ∗ ownBufs (S d (coreOf (Fin.cast nCore_zero c))))))
  rw [bigSep_tasks (F := F) (fun i => iprop(taskPts m d (m (oLoc d)) (Fin.cast nCore_zero c) i ∗ shTask (F := F) d (Fin.cast nCore_zero c) i)),
    bigSep_tasks (F := F) (fun i => iprop(taskPts m d (X m d) (Fin.cast nCore_zero c) i ∗ shTask (F := F) d (Fin.cast nCore_zero c) i)),
    bigSep_sep', bigSep_sep', ownBufs_S]
  iintro ⟨Hc, Hsh, Hrest⟩; imodintro
  isplitl [Hc Hsh]
  · isplitl [Hc]; · iexact Hc
    iapply (sh_split d (Fin.cast nCore_zero c)); iexact Hsh
  iintro ⟨Hc, Hsh⟩
  isplitl [Hc]; · iexact Hc
  isplitl [Hsh]; · iapply (sh_join d (Fin.cast nCore_zero c)); iexact Hsh
  iexact Hrest

/-! ## The ghost state at the launch -/

/-- The ghost state at the launch: the handshakes', and no transfer yet. -/
def u₀ : UU := (initOf (K (F := F)).hsCells (K (F := F)).hsToks, 1)

/-- Nothing, however many times, is nothing. -/
theorem bigSep_emp' {I : Type} (s : Finset I) : (bigSep s fun _ => iprop(emp)) = (iprop(emp) : sProp 𝕄) := bigSep_emp_const s

/-- From that ghost state the launch has its handshakes; the devices and the tasks need nothing of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The first argument, as it was at the start. -/
abbrev aPts (d : Dev nD) : sProp 𝕄 := aLoc d ↦{fullShare} m (aLoc d)
/-- `emb`, as it was at the start. -/
abbrev ePts (d : Dev nD) : sProp 𝕄 := eLoc d ↦{fullShare} m (eLoc d)
/-- `out`, at contents `f`. -/
abbrev oPts (d : Dev nD) (f : Buf (Elt F) (oLoc d)) : sProp 𝕄 := oLoc d ↦{fullShare} f

/-- The arrays of @main are its two arguments and its result. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (eLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- `emb` and `out` whole are the chunks of all tasks. -/
theorem whole_eq (d : Dev nD) (f : Buf (Elt F) (oLoc d)) :
    (iprop(ePts m d ∗ oPts d f) : sProp 𝕄) = bigSep Finset.univ fun c : Fin 2 => corePts m d f c := by
  have he : ∀ (ℓ : Loc nD τ sig) (C : Fin 2 × Fin 16 × Fin 16 → Finset (Idx ℓ)) (g : Buf (Elt F) ℓ)
      (_ : ∀ t ∈ (Finset.univ : Finset (Fin 2 × Fin 16 × Fin 16)), ∀ t' ∈ (Finset.univ : Finset (Fin 2 × Fin 16 × Fin 16)), t ≠ t' → Disjoint (C t) (C t'))
      (_ : Finset.univ.biUnion C = Finset.univ), (ℓ ↦{fullShare} g : sProp 𝕄) = bigSep Finset.univ fun t => ℓ ↦[C t]{fullShare} g :=
    fun ℓ C g hd hc => by rw [← pointsTo_biUnion Finset.univ C hd, hc]
  unfold ePts oPts
  rw [he (eLoc d) chunk _ chunk_disjoint chunk_cover, he (oLoc d) chunk _ chunk_disjoint chunk_cover, ← bigSep_sep',
    bigSep_univ_prod]
  exact bigSep_congr fun c _ => bigSep_univ_prod _

/-- What @main hands the SparseCores is `emb` and `out` whole, -/
theorem st0_eq (d : Dev nD) : (bigSep Finset.univ fun c : Fin ((K (F := F)).nCore 0) => (P m).st 0 d c) = iprop(ePts m d ∗ oPts d (m (oLoc d))) :=
  (bigSep_cores (F := F) (corePts m d (m (oLoc d)))).trans (whole_eq m d _).symm
/-- and what it has back is `emb` and `out` whole, `out` holding `emb`. -/
theorem dn0_eq (d : Dev nD) : (bigSep Finset.univ fun c : Fin ((K (F := F)).nCore 0) => (P m).dn 0 d c) = iprop(ePts m d ∗ oPts d (X m d)) :=
  (bigSep_cores (F := F) (corePts m d (X m d))).trans (whole_eq m d _).symm

/-- What the program ends with: the arguments as they were, the result holding `emb`. -/
abbrev FIN (d : Dev nD) : sProp 𝕄 := iprop(aPts m d ∗ ePts m d ∗ oPts d (X m d))

/-- What that says of the final memory. -/
def fq (d : Dev nD) (s' : Phys nD τ sig (Elt F)) : Prop :=
  s'.mem.mem (aLoc d) = m (aLoc d) ∧ s'.mem.mem (eLoc d) = m (eLoc d) ∧ s'.mem.mem (oLoc d) = X m d

set_option maxRecDepth 16384 in
/-- A final memory of which `FIN` holds is as `fq` says. -/
theorem hfin (d : Dev nD) (s' : Phys nD τ sig (Elt F)) : iprop(FIN m d ∗ SI s') ⊢ (⌜fq m d s'⌝ : sProp 𝕄) := by
  iintro ⟨⟨Ha, He, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := oLoc d) (I := Finset.univ) (q := fullShare) (f := X m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

variable [FloatOps F]

/-- @main on device `d`: the one call, from `emb` and `out` whole to the same with `out` at `emb`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, He, Ho⟩, Hts, -⟩, -⟩
  iapply ((K (F := F)).wp_run (D (F := F)) 𝒱 (EH := EH) (P := P m) κ d 0) $$ [Hst Ha He Ho Hb Hts]
  isplitr; · iexact Hctx
  isplitl [Hst]; · iexact Hst
  isplitl [He Ho]
  · rw [st0_eq]
    isplitl [He]; · iexact He
    iexact Ho
  iintro ⟨Hst, Hdn⟩
  ihave Hdn' := (Entails.of_eq (dn0_eq m d)) $$ Hdn
  icases Hdn' with ⟨He, Ho⟩
  imodintro
  isplitl [Hst]; · iexact Hst
  isplitr [Hb Hts]
  · isplitl [Ha]; · iexact Ha
    isplitl [He]; · iexact He
    iexact Ho
  isplitl [Hb] <;> iassumption

/-! ## The run -/

/-- The end of the program: both arguments as they were, the result equal to `emb`, every semaphore counter at zero. -/
def QC : PUnit × MemSt nD τ sig (Elt F) → Prop := fun r =>
  (∀ c : Dev nD, r.2.mem (aLoc c) = m (aLoc c) ∧ r.2.mem (eLoc c) = m (eLoc c) ∧ r.2.mem (oLoc c) = X m c) ∧ r.2.sem = fun _ => 0

/-- Over any float values, from any memory with zero counters, every weakly fair execution of the program terminates with
    both arguments unchanged, the result equal to `emb`, and every semaphore counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

end Cert.Proof.Copy

end
-- ==== Proof.Ref.lean ====
/-
  What the reference computes: the rows of `emb` taken at the numbers 0, …, 8191, which is `emb` itself. Stated once over any float
  values, on the composed term of the reference's operations.
-/
module

public import proofs.«01_k».proof.Proof.Gen.ReferenceIdeal.Run
public import Idealize.ShloMosaic.Lib.Routing.Ops
public import Idealize.ShloMosaic.Lib.ReduceAll
public import Idealize.ShloMosaic.Lib.ValueIdxCoords
public import Idealize.ShloMosaic.Lib.WordCmp

@[expose] public section

noncomputable section

namespace Cert.Proof.Take

open Cert.ReferenceIdeal Cert.ReferenceIdeal.Gen Idealize.ShloMosaic Idealize.ShloMosaic.ValueIdx

variable {F : FTy → Type} [FloatOps F]

/-- The row numbers the reference takes: each position, a negative one counted from the end. -/
abbrev rowNo : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32))) (iotaInDim S8192 32 0)

/-- The same, as a column. -/
abbrev rowCol : IVec S8192x1 32 := broadcastInDim S8192x1 ![0] bcast_S8192_S8192x1_0 rowNo

/-- Which row numbers lie in 0, …, 8191. -/
abbrev inRows : IVec S8192 1 :=
  Host.reduce IntOp.andi (andi (cmpi .sge rowCol (broadcastInDim S8192x1 ![] bcast_S_S8192x1 (constantI S_ 32 0#32)))
      (cmpi .sle rowCol (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- The reference's operations composed, at the operand `x`. -/
abbrev taken (x : FVec F S8192x1024 .f32) : FVec F S8192x1024 .f32 :=
  select (broadcastInDim S8192x1024 ![0] bcast_S8192_S8192x1024_0 inRows)
    (Host.gather gather_S8192x1024_S8192x1_S8192x1024_1_0_n_n_0_1_11024 x rowCol)
    (broadcastInDim S8192x1024 ![] bcast_S_S8192x1024 (constant S_ .f32 0x7FC00000#32))

/-- No row number is negative: the one at position `j` is `j`. -/
theorem rowNo_apply (j : S8192.Idx) : rowNo j = BitVec.ofNat 32 (j 0).val := by
  show Scalar.select (IntOp.cmpi .slt (BitVec.ofNat 32 (j 0).val) (BitVec.ofNat 32 0)) _ _ = _
  have hj : (j 0).val < 8192 := (j 0).isLt
  rw [WordCmp.cmpi_slt_ofNat (by omega) (by omega), show decide ((j 0).val < 0) = false from decide_eq_false (by omega)]
  rfl

/-- The column's entry at row `i` is `i`. -/
theorem rowCol_apply (i : S8192x1.Idx) : rowCol i = BitVec.ofNat 32 (i 0).val := by
  show rowNo _ = _
  rw [rowNo_apply]
  rfl

/-- Every row number lies in 0, …, 8191. -/
theorem inRows_apply (j : S8192.Idx) : inRows j = 1#1 := by
  refine Host.reduce_andi_one _ _ _ _ j rfl fun i => ?_
  show IntOp.andi (IntOp.cmpi .sge (rowCol i) (BitVec.ofNat 32 0)) (IntOp.cmpi .sle (rowCol i) (BitVec.ofNat 32 8191)) = 1#1
  have hi : (i 0).val < 8192 := (i 0).isLt
  rw [rowCol_apply, WordCmp.cmpi_sge_ofNat (by omega) (by omega), WordCmp.cmpi_sle_ofNat (by omega) (by omega),
    show decide (0 ≤ (i 0).val) = true from decide_eq_true (by omega), show decide ((i 0).val ≤ 8191) = true from decide_eq_true (by omega)]
  rfl

/-- Taking the rows 0, …, 8191 of `x` gives `x`. -/
theorem taken_eq (x : FVec F S8192x1024 .f32) : taken x = x := by
  funext i
  refine (select_apply _ _ _ i).trans ?_
  rw [show broadcastInDim S8192x1024 ![0] bcast_S8192_S8192x1024_0 inRows i = 1#1 from inRows_apply _, select_one, show i = ix2 (i 0) (i 1) from funext fun a => match a with | ⟨0, _⟩ => rfl | ⟨1, _⟩ => rfl]
  exact Routing.gather_row gather_S8192x1024_S8192x1_S8192x1024_1_0_n_n_0_1_11024 rfl rfl rfl rfl rfl x rowCol (i 0) (i 1) (i 0)
    (rowCol_apply _) (by norm_num)

end Cert.Proof.Take

end
-- ==== Proof.lean ====
/-
  The claims. The kernel's run is `Proof/Launch.lean` (`Copy.run_main`), stated once over any float values: it serves `Kernel` at bit
  patterns and `KernelIdeal` at the extended reals, whose texts are one. What the reference computes is `Proof/Ref.lean`
  (`Take.taken_eq`). Both end with `emb`, so the value claims need no arithmetic.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem Cert.Kernel

/-- `Kernel` terminates with its arguments unchanged and every counter at zero: the run of `Proof/Launch.lean`, at bit patterns. -/
theorem frame_kernel : Cert.quiescent_Kernel := fun m ρ _ =>
  (θ_run Cert.KernelIdeal.defs _ _).mono (fun _ h => ⟨fun c => ⟨(h.1 c).1, (h.1 c).2.1⟩, h.2⟩) (Copy.run_main (F := Bits) m ρ)

/-- The same of `KernelIdeal`. -/
theorem frame_kernelIdeal : Cert.quiescent_KernelIdeal := fun m ρ _ =>
  (θ_run Cert.KernelIdeal.defs _ _).mono (fun _ h => ⟨fun c => ⟨(h.1 c).1, (h.1 c).2.1⟩, h.2⟩) (Copy.run_main m ρ)

/-- `ReferenceIdeal` terminates with its arguments unchanged; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The same of `Reference`. -/
theorem frame_reference : Cert.quiescent_Reference := fun m ρ _ =>
  (θ_run Cert.Reference.defs _ _).mono (fun r h => ⟨fun c => (h c).2, sem_eq_zero_of_no_sems (by decide) r.2⟩)
    (Cert.Reference.Value.run m ρ)

/-- Over the extended reals, the kernel's result and the reference's are both `emb`. -/
theorem algebraic : Cert.algebraic_KernelIdeal_ReferenceIdeal := fun m ρ m' ρ' _ hagree =>
  ⟨fun c => Copy.X (F := Ideal) m c,
    (θ_run Cert.KernelIdeal.defs _ _).mono (fun _ h c => ⟨(h.1 c).2.2, (h.1 c).1, (h.1 c).2.1⟩) (Copy.run_main (F := Ideal) m ρ),
    (θ_run Cert.ReferenceIdeal.defs _ _).mono (fun _ h c => ⟨((h c).1.trans (Take.taken_eq (F := Ideal) _)).trans (hagree c).2, (h c).2⟩)
      (Cert.ReferenceIdeal.Value.run m' ρ')⟩

/-- At bit patterns, the kernel's result and the reference's are both `emb`, bit for bit. -/
theorem bitexact : Cert.bitexact_Kernel_Reference := fun m ρ m' ρ' _ hagree =>
  ⟨fun c => Copy.X (F := Bits) m c,
    (θ_run Cert.KernelIdeal.defs _ _).mono (fun _ h c => ⟨(h.1 c).2.2, (h.1 c).1, (h.1 c).2.1⟩) (Copy.run_main (F := Bits) m ρ),
    (θ_run Cert.Reference.defs _ _).mono (fun _ h c => ⟨((h c).1.trans (Take.taken_eq (F := Bits) _)).trans (hagree c).2, (h c).2⟩)
      (Cert.Reference.Value.run m' ρ')⟩

/-- All the claims together; `KernelIdeal` is `Kernel`'s own text, no operation replaced, so `preserves` has nothing to show. -/
theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
